-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_preactivation_is_minus_inf [hPre_no_preactivation_is_minus_inf : Cert.Pre_no_preactivation_is_minus_inf.Facts] (m : (ℓ : Loc Cert.KernelIdeal.nD Cert.KernelIdeal.τ Cert.KernelIdeal.sig) → Buf (Elt Ideal) ℓ) : Prop :=
  ∀ c : Dev Cert.KernelIdeal.nD,
    (Cert.Pre_no_preactivation_is_minus_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_preactivation_is_minus_inf [hPre_no_preactivation_is_minus_inf : Cert.Pre_no_preactivation_is_minus_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_preactivation_is_minus_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_no_preactivation_is_minus_inf [hKernelIdeal : Cert.KernelIdeal.Facts] [hPre_no_preactivation_is_minus_inf : Cert.Pre_no_preactivation_is_minus_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_preactivation_is_minus_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_no_preactivation_is_minus_inf [hReferenceIdeal : Cert.ReferenceIdeal.Facts] [hPre_no_preactivation_is_minus_inf : Cert.Pre_no_preactivation_is_minus_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_preactivation_is_minus_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "threshold" .bf16 0x3586#16 ((8796093 / 8796093022208 : ℝ) : EReal)

def algebraic_KernelIdeal_ReferenceIdeal_pre_no_preactivation_is_minus_inf [hKernelIdeal : Cert.KernelIdeal.Facts] [hReferenceIdeal : Cert.ReferenceIdeal.Facts] [hPre_no_preactivation_is_minus_inf : Cert.Pre_no_preactivation_is_minus_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_preactivation_is_minus_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_no_preactivation_is_minus_inf : Cert.Pre_no_preactivation_is_minus_inf.Facts),
    quiescent_Kernel (hKernel := hKernel)
    ∧ quiescent_KernelIdeal (hKernelIdeal := hKernelIdeal)
    ∧ quiescent_KernelIdeal_pre_no_preactivation_is_minus_inf (hKernelIdeal := hKernelIdeal) (hPre_no_preactivation_is_minus_inf := hPre_no_preactivation_is_minus_inf)
    ∧ quiescent_ReferenceIdeal (hReferenceIdeal := hReferenceIdeal)
    ∧ quiescent_ReferenceIdeal_pre_no_preactivation_is_minus_inf (hReferenceIdeal := hReferenceIdeal) (hPre_no_preactivation_is_minus_inf := hPre_no_preactivation_is_minus_inf)
    ∧ preserves_Kernel_KernelIdeal
    ∧ algebraic_KernelIdeal_ReferenceIdeal_pre_no_preactivation_is_minus_inf (hKernelIdeal := hKernelIdeal) (hReferenceIdeal := hReferenceIdeal) (hPre_no_preactivation_is_minus_inf := hPre_no_preactivation_is_minus_inf)
-- ==== Pre_no_preactivation_is_minus_inf.lean ====
abbrev S4x4096 : Shape := ⟨2, ![4, 4096]⟩
abbrev S2x1024 : Shape := ⟨2, ![2, 1024]⟩
abbrev S1024 : Shape := ⟨1, ![1024]⟩
abbrev S1024x1024 : Shape := ⟨2, ![1024, 1024]⟩
abbrev S_ : Shape := ⟨0, ![]⟩
abbrev S4x4096x1 : Shape := ⟨3, ![4, 4096, 1]⟩
abbrev S4x4096x2 : Shape := ⟨3, ![4, 4096, 2]⟩
abbrev S4x4096x1024 : Shape := ⟨3, ![4, 4096, 1024]⟩
abbrev S1x1x1024 : Shape := ⟨3, ![1, 1, 1024]⟩

class Facts : Prop where
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  concatenates_S4x4096x1_S4x4096x1_S4x4096x2_d2 : Shape.Concatenates [S4x4096x1, S4x4096x1] S4x4096x2 2
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  bcast_S_S4x4096x1024 : S_.BroadcastsInDim S4x4096x1024 (![] : Fin 0 → Fin S4x4096x1024.rank)
  dot_S4x4096x2_S2x1024_S4x4096x1024_2_0_01_1_n_n_wf : DotDims.WF S4x4096x2 S2x1024 S4x4096x1024 [2] [0] [0, 1] [1] [] []

variable [Facts]

def dot_S4x4096x2_S2x1024_S4x4096x1024_2_0_01_1_n_n : DotDims S4x4096x2 S2x1024 S4x4096x1024 where
  lhsContracting := [2]
  rhsContracting := [0]
  lhsNonContracting := [0, 1]
  rhsNonContracting := [1]
  lhsBatch := []
  rhsBatch := []
  wf := dot_S4x4096x2_S2x1024_S4x4096x1024_2_0_01_1_n_n_wf
def fn_where {F : FTy → Type} [FloatOps F] (arg0 : IVec S4x4096 1) (arg1 : FVec F S_ .f32) (arg2 : FVec F S4x4096 .f32) : FVec F S4x4096 .f32 :=
  let v0 : FVec F S_ .f32 := id arg1
  let v1 : FVec F S4x4096 .f32 := broadcastInDim S4x4096 ![] bcast_S_S4x4096 v0
  let v2 : FVec F S4x4096 .f32 := select arg0 v1 arg2
  v2

def fn {F : FTy → Type} [FloatOps F] (main_arg0 : FVec F S4x4096 .f32) (main_arg1 : FVec F S4x4096 .f32) (main_arg2 : FVec F S2x1024 .f32) (main_arg3 : FVec F S1024 .f32) (main_arg4 : FVec F S1024x1024 .f32) : IVec S4x4096x1024 1 :=
  let main_v0 : FVec F S4x4096 .f32 := Host.absf main_arg0
  let main_cst : FVec F S_ .f32 := constant S_ .f32 0x358637BD#32
  let main_v1 : FVec F S4x4096 .f32 := broadcastInDim S4x4096 ![] bcast_S_S4x4096 main_cst
  let main_v2 : IVec S4x4096 1 := cmpf .olt main_v0 main_v1
  let main_cst_0 : FVec F S_ .f32 := constant S_ .f32 0x00000000#32
  let main_v3 : FVec F S4x4096 .f32 := fn_where (F := F) main_v2 main_cst_0 main_arg0
  let main_v4 : FVec F S4x4096 .f32 := Host.absf main_arg1
  let main_cst_1 : FVec F S_ .f32 := constant S_ .f32 0x358637BD#32
  let main_v5 : FVec F S4x4096 .f32 := broadcastInDim S4x4096 ![] bcast_S_S4x4096 main_cst_1
  let main_v6 : IVec S4x4096 1 := cmpf .olt main_v4 main_v5
  let main_cst_2 : FVec F S_ .f32 := constant S_ .f32 0x00000000#32
  let main_v7 : FVec F S4x4096 .f32 := fn_where (F := F) main_v6 main_cst_2 main_arg1
  let main_v8 : FVec F S4x4096x1 .f32 := broadcastInDim S4x4096x1 ![0, 1] bcast_S4x4096_S4x4096x1_0_1 main_v3
  let main_v9 : FVec F S4x4096x1 .f32 := broadcastInDim S4x4096x1 ![0, 1] bcast_S4x4096_S4x4096x1_0_1 main_v7
  let main_v10 : FVec F S4x4096x2 .f32 := (fun a b => concatenate S4x4096x2 2 [⟨S4x4096x1, a⟩, ⟨S4x4096x1, b⟩] concatenates_S4x4096x1_S4x4096x1_S4x4096x2_d2) main_v8 main_v9
  let main_v11 : FVec F S4x4096x1024 .f32 := (fun l r => Host.dotGeneral dot_S4x4096x2_S2x1024_S4x4096x1024_2_0_01_1_n_n none l r) main_v10 main_arg2
  let main_v12 : FVec F S1x1x1024 .f32 := broadcastInDim S1x1x1024 ![2] bcast_S1024_S1x1x1024_2 main_arg3
  let main_v13 : FVec F S4x4096x1024 .f32 := broadcastInDim S4x4096x1024 ![0, 1, 2] bcast_S1x1x1024_S4x4096x1024_0_1_2 main_v12
  let main_v14 : FVec F S4x4096x1024 .f32 := addf main_v11 main_v13
  let main_cst_3 : FVec F S_ .f32 := constant S_ .f32 0xFF800000#32
  let main_v15 : FVec F S4x4096x1024 .f32 := broadcastInDim S4x4096x1024 ![] bcast_S_S4x4096x1024 main_cst_3
  let main_v16 : IVec S4x4096x1024 1 := cmpf .ogt main_v14 main_v15
  main_v16
-- ==== Kernel.lean ====
abbrev S4x4096 : Shape := ⟨2, ![4, 4096]⟩
abbrev S2x1024 : Shape := ⟨2, ![2, 1024]⟩
abbrev S1024 : Shape := ⟨1, ![1024]⟩
abbrev S1024x1024 : Shape := ⟨2, ![1024, 1024]⟩
abbrev S16384 : Shape := ⟨1, ![16384]⟩
abbrev S16384x1 : Shape := ⟨2, ![16384, 1]⟩
abbrev S16384x2 : Shape := ⟨2, ![16384, 2]⟩
abbrev S1x1024 : Shape := ⟨2, ![1, 1024]⟩
abbrev S16384x1024 : Shape := ⟨2, ![16384, 1024]⟩
abbrev S512x2 : Shape := ⟨2, ![512, 2]⟩
abbrev S512x1024 : Shape := ⟨2, ![512, 1024]⟩
abbrev S4x4096x1024 : Shape := ⟨3, ![4, 4096, 1024]⟩

abbrev nBuf : Space → Nat
  | .hbm => 14
  | .vmem => 10
  | .smem => 0
  | _ => 0

abbrev bufTy : (tb : Table) → Fin (tcTables nBuf tb) → BufTy
  | .hbm, ⟨0, _⟩ => ⟨S4x4096, .f32⟩
  | .hbm, ⟨1, _⟩ => ⟨S4x4096, .f32⟩
  | .hbm, ⟨2, _⟩ => ⟨S2x1024, .f32⟩
  | .hbm, ⟨3, _⟩ => ⟨S1024, .f32⟩
  | .hbm, ⟨4, _⟩ => ⟨S1024x1024, .f32⟩
  | .hbm, ⟨5, _⟩ => ⟨S16384, .f32⟩
  | .hbm, ⟨6, _⟩ => ⟨S16384, .f32⟩
  | .hbm, ⟨7, _⟩ => ⟨S16384x1, .f32⟩
  | .hbm, ⟨8, _⟩ => ⟨S16384x1, .f32⟩
  | .hbm, ⟨9, _⟩ => ⟨S16384x2, .f32⟩
  | .hbm, ⟨10, _⟩ => ⟨S16384x2, .bf16⟩
  | .hbm, ⟨11, _⟩ => ⟨S1x1024, .f32⟩
  | .hbm, ⟨12, _⟩ => ⟨S16384x1024, .f32⟩
  | .hbm, ⟨13, _⟩ => ⟨S4x4096x1024, .f32⟩
  | .local _ .vmem, ⟨0, _⟩ => ⟨S512x2, .bf16⟩
  | .local _ .vmem, ⟨1, _⟩ => ⟨S512x2, .bf16⟩
  | .local _ .vmem, ⟨2, _⟩ => ⟨S2x1024, .f32⟩
  | .local _ .vmem, ⟨3, _⟩ => ⟨S1x1024, .f32⟩
  | .local _ .vmem, ⟨4, _⟩ => ⟨S1024x1024, .f32⟩
  | .local _ .vmem, ⟨5, _⟩ => ⟨S512x1024, .f32⟩
  | .local _ .vmem, ⟨6, _⟩ => ⟨S512x1024, .f32⟩
  | .local _ .vmem, ⟨7, _⟩ => ⟨S2x1024, .bf16⟩
  | .local _ .vmem, ⟨8, _⟩ => ⟨S1x1024, .f32⟩
  | .local _ .vmem, ⟨9, _⟩ => ⟨S1024x1024, .bf16⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "threshold" => some ((8796093 / 8796093022208 : ℝ) : EReal)
  | _ => none
-- ==== ReferenceIdeal.lean ====
abbrev S4x4096 : Shape := ⟨2, ![4, 4096]⟩
abbrev S2x1024 : Shape := ⟨2, ![2, 1024]⟩
abbrev S1024 : Shape := ⟨1, ![1024]⟩
abbrev S1024x1024 : Shape := ⟨2, ![1024, 1024]⟩
abbrev S_ : Shape := ⟨0, ![]⟩
abbrev S4x4096x1 : Shape := ⟨3, ![4, 4096, 1]⟩
abbrev S4x4096x2 : Shape := ⟨3, ![4, 4096, 2]⟩
abbrev S4x4096x1024 : Shape := ⟨3, ![4, 4096, 1024]⟩
abbrev S1x1x1024 : Shape := ⟨3, ![1, 1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S4x4096, .f32⟩
  | .hbm, ⟨2, _⟩ => ⟨S2x1024, .f32⟩
  | .hbm, ⟨3, _⟩ => ⟨S1024, .f32⟩
  | .hbm, ⟨4, _⟩ => ⟨S1024x1024, .f32⟩
  | .hbm, ⟨5, _⟩ => ⟨S4x4096, .f32⟩
  | .hbm, ⟨6, _⟩ => ⟨S_, .f32⟩
  | .hbm, ⟨7, _⟩ => ⟨S4x4096, .f32⟩
  | .hbm, ⟨8, _⟩ => ⟨S4x4096, .i1⟩
  | .hbm, ⟨9, _⟩ => ⟨S_, .f32⟩
  | .hbm, ⟨10, _⟩ => ⟨S_, .f32⟩
  | .hbm, ⟨11, _⟩ => ⟨S4x4096, .f32⟩
  | .hbm, ⟨12, _⟩ => ⟨S4x4096, .f32⟩
  | .hbm, ⟨13, _⟩ => ⟨S4x4096, .f32⟩
  | .hbm, ⟨14, _⟩ => ⟨S_, .f32⟩
  | .hbm, ⟨15, _⟩ => ⟨S4x4096, .f32⟩
  | .hbm, ⟨16, _⟩ => ⟨S4x4096, .i1⟩
  | .hbm, ⟨17, _⟩ => ⟨S_, .f32⟩
  | .hbm, ⟨18, _⟩ => ⟨S_, .f32⟩
  | .hbm, ⟨19, _⟩ => ⟨S4x4096, .f32⟩
  | .hbm, ⟨20, _⟩ => ⟨S4x4096, .f32⟩
  | .hbm, ⟨21, _⟩ => ⟨S4x4096x1, .f32⟩
  | .hbm, ⟨22, _⟩ => ⟨S4x4096x1, .f32⟩
  | .hbm, ⟨23, _⟩ => ⟨S4x4096x2, .f32⟩
  | .hbm, ⟨24, _⟩ => ⟨S4x4096x1024, .f32⟩
  | .hbm, ⟨25, _⟩ => ⟨S1x1x1024, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S_, .f32⟩
  | .hbm, ⟨31, _⟩ => ⟨S4x4096x1024, .f32⟩
  | .hbm, ⟨32, _⟩ => ⟨S4x4096x1024, .f32⟩
  | .hbm, ⟨33, _⟩ => ⟨S_, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S_, .f32⟩
  | .hbm, ⟨41, _⟩ => ⟨S4x4096x1024, .f32⟩
  | .hbm, ⟨42, _⟩ => ⟨S4x4096x1024, .f32⟩
  | .hbm, ⟨43, _⟩ => ⟨S_, .f32⟩
  | .hbm, ⟨44, _⟩ => ⟨S4x4096x1024, .f32⟩
  | .hbm, ⟨45, _⟩ => ⟨S4x4096x1024, .f32⟩
  | .hbm, ⟨46, _⟩ => ⟨S_, .f32⟩
  | .hbm, ⟨47, _⟩ => ⟨S4x4096x1024, .f32⟩
  | .hbm, ⟨48, _⟩ => ⟨S4x4096x1024, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call1_v0 : Ref sig .tc := ⟨.hbm, 18, rfl⟩
abbrev main_call1_v1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call2_v0 : Ref sig .tc := ⟨.hbm, 28, rfl⟩
abbrev main_call2_v1 : Ref sig .tc := ⟨.hbm, 29, rfl⟩
abbrev main_call2_cst : Ref sig .tc := ⟨.hbm, 30, rfl⟩
abbrev main_call2_v2 : Ref sig .tc := ⟨.hbm, 31, rfl⟩
abbrev main_call2_v3 : Ref sig .tc := ⟨.hbm, 32, rfl⟩
abbrev main_call2_cst_0 : Ref sig .tc := ⟨.hbm, 33, rfl⟩
abbrev main_call2_v4 : Ref sig .tc := ⟨.hbm, 34, rfl⟩
abbrev main_call2_v5 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_3 : Ref sig .tc := ⟨.hbm, 40, rfl⟩
abbrev main_v19 : Ref sig .tc := ⟨.hbm, 41, rfl⟩
abbrev main_v20 : Ref sig .tc := ⟨.hbm, 42, rfl⟩
abbrev main_cst_4 : Ref sig .tc := ⟨.hbm, 43, rfl⟩
abbrev main_v21 : Ref sig .tc := ⟨.hbm, 44, rfl⟩
abbrev main_v22 : Ref sig .tc := ⟨.hbm, 45, rfl⟩
abbrev main_cst_5 : Ref sig .tc := ⟨.hbm, 46, rfl⟩
abbrev main_v23 : Ref sig .tc := ⟨.hbm, 47, rfl⟩
abbrev main_v24 : Ref sig .tc := ⟨.hbm, 48, rfl⟩

abbrev nD : Nat := 1
abbrev τ : Topo := Topo.v7x

variable {F : FTy → Type} [FloatOps F]
-- ==== Proof.Scalars.lean ====
/-
  The arithmetic on the extended reals that makes the kernel's formulas and the textbook's the same numbers.

  The kernel never computes a sigmoid. It halves the weights and biases beforehand, so that it holds `h / 2` where the
  textbook holds `h`, and uses that `1 / (1 + exp (-z))` is `(1 + tanh (z / 2)) / 2`. Everything needed for that is
  here, one number at a time: the four constants the two programs print, that a half can be moved through a sum,
  and the two sigmoid identities with their corners at the infinities.
-/
module

public import Idealize.ShloMosaic.Lib.IdealHost

@[expose] public section

noncomputable section

namespace Cert.Scalars

open Idealize.ShloMosaic

/-- One half, as an extended real. -/
abbrev half : EReal := ((1 / 2 : ℝ) : EReal)

/-- The threshold below which a position counts as zero: the 32-bit number closest to one millionth. -/
abbrev threshold : EReal := ((8796093 / 8796093022208 : ℝ) : EReal)

/-- The word by which the kernel scales its weights is one half. -/
theorem word_half : Ideal.ofBits .f32 0x3F000000#32 = half := by
  simp [Ideal.ofBits, Ideal.ieee, half, -EReal.coe_mul]; norm_num

/-- The word with which the kernel scales and shifts its last hyperbolic tangent is eight. -/
theorem word_eight : Ideal.ofBits .f32 0x41000000#32 = ((8 : ℝ) : EReal) := by
  simp [Ideal.ofBits, Ideal.ieee, -EReal.coe_mul]; norm_num

/-- The word with which the reference scales its last sigmoid is sixteen. -/
theorem word_sixteen : Ideal.ofBits .f32 0x41800000#32 = ((16 : ℝ) : EReal) := by
  simp [Ideal.ofBits, Ideal.ieee, -EReal.coe_mul]; norm_num

/-- The word to which the reference compares a position is the threshold. -/
theorem word_threshold : Ideal.ofBits .f32 0x358637BD#32 = threshold := by
  simp [Ideal.ofBits, Ideal.ieee, threshold, -EReal.coe_mul]; norm_num

/-- The word to which the precondition compares a pre-activation is minus infinity. -/
theorem word_minus_infinity : Ideal.ofBits .f32 0xFF800000#32 = ⊥ := by
  simp [Ideal.ofBits, Ideal.ieee]

/-- A half distributes over a sum of two extended reals, infinities included: it is positive and finite. -/
theorem half_add (a b : EReal) : half * (a + b) = half * a + half * b :=
  EReal.left_distrib_of_nonneg_of_ne_top (EReal.coe_nonneg.mpr (by norm_num)) (EReal.coe_ne_top _) a b

/-- A half distributes over a finite sum. -/
theorem half_sum {ι : Type} (s : Finset ι) (f : ι → EReal) : half * ∑ i ∈ s, f i = ∑ i ∈ s, half * f i := by
  classical
  induction s using Finset.induction_on with
  | empty => simp
  | insert a s ha ih => rw [Finset.sum_insert ha, Finset.sum_insert ha, half_add, ih]

/-- Scaling the second factor of every product in a sum by a half scales the sum by a half. -/
theorem sum_half_right {ι : Type} (s : Finset ι) (x w : ι → EReal) :
    ∑ i ∈ s, x i * (half * w i) = half * ∑ i ∈ s, x i * w i := by
  rw [half_sum]
  exact Finset.sum_congr rfl fun i _ => mul_left_comm ..

/-- On the real numbers: the sigmoid is `(1 + tanh (z / 2)) / 2`. -/
theorem real_sigmoid (z : ℝ) : (1 + Real.exp (-z))⁻¹ = 1 / 2 * (1 + Real.tanh (1 / 2 * z)) := by
  have ha := Real.exp_pos (1 / 2 * z)
  have hb := Real.exp_pos (-(1 / 2 * z))
  have hz : Real.exp (-z) = Real.exp (-(1 / 2 * z)) / Real.exp (1 / 2 * z) := by rw [← Real.exp_sub]; congr 1; ring
  rw [Real.tanh_eq_sinh_div_cosh, Real.sinh_eq, Real.cosh_eq, hz]
  field_simp
  ring

/-- The hyperbolic tangent of minus infinity is minus one. -/
theorem tanh_bot : Ideal.tanh ⊥ = ((-1 : ℝ) : EReal) := by
  show (-1 : EReal) = _
  rw [EReal.coe_neg, EReal.coe_one]

/-- The hyperbolic tangent of plus infinity is one. -/
theorem tanh_top : Ideal.tanh ⊤ = ((1 : ℝ) : EReal) := by
  show (1 : EReal) = _
  rw [EReal.coe_one]

/-- The hyperbolic tangent of half a real number. -/
theorem tanh_half (r : ℝ) : Ideal.tanh (half * (r : EReal)) = ((Real.tanh (1 / 2 * r) : ℝ) : EReal) := by
  rw [← EReal.coe_mul]; rfl

/-- Half of one plus a real number, as one real number. -/
theorem half_one_add (r : ℝ) : half * (1 + (r : EReal)) = ((1 / 2 * (1 + r) : ℝ) : EReal) := by
  rw [EReal.coe_mul, EReal.coe_add, EReal.coe_one]

/-- Half of minus infinity. -/
theorem half_bot : half * (⊥ : EReal) = ⊥ := EReal.coe_mul_bot_of_pos (by norm_num)

/-- Half of plus infinity. -/
theorem half_top : half * (⊤ : EReal) = ⊤ := EReal.coe_mul_top_of_pos (by norm_num)

/-- The hyperbolic tangent of an extended real is a real number. -/
theorem exists_tanh (z : EReal) : ∃ r : ℝ, Ideal.tanh z = (r : EReal) := by
  induction z with
  | bot => exact ⟨-1, tanh_bot⟩
  | top => exact ⟨1, tanh_top⟩
  | coe r => exact ⟨Real.tanh r, rfl⟩

/-- On the extended reals: `1 / (1 + exp (-z))` is `(1 + tanh (z / 2)) / 2`, both infinities included. -/
theorem sigmoid (z : EReal) : Ideal.div 1 (1 + Ideal.exp (-z)) = half * (1 + Ideal.tanh (half * z)) := by
  induction z with
  | bot =>
    have h1 : Ideal.exp (-(⊥ : EReal)) = ⊤ := by rw [EReal.neg_bot]; rfl
    have h3 : (1 : EReal) + ⊤ = ⊤ := by rw [← EReal.coe_one]; exact EReal.coe_add_top 1
    rw [half_bot, h1, tanh_bot, half_one_add, h3, Ideal.div, if_neg EReal.top_ne_zero, EReal.inv_top, mul_zero, ← EReal.coe_zero]
    exact congrArg _ (by norm_num)
  | top =>
    have h1 : Ideal.exp (-(⊤ : EReal)) = 0 := by rw [EReal.neg_top]; rfl
    rw [half_top, h1, tanh_top, half_one_add, add_zero, Ideal.div, if_neg one_ne_zero, one_mul, ← EReal.coe_one, ← EReal.coe_inv]
    exact congrArg _ (by norm_num)
  | coe r =>
    have hp : (0 : ℝ) < 1 + Real.exp (-r) := by positivity
    have h1 : 1 + Ideal.exp (-(r : EReal)) = ((1 + Real.exp (-r) : ℝ) : EReal) := by
      rw [← EReal.coe_neg, EReal.coe_add, EReal.coe_one]; rfl
    have h0 : ((1 + Real.exp (-r) : ℝ) : EReal) ≠ 0 := fun h => hp.ne' (EReal.coe_eq_zero.mp h)
    rw [h1, tanh_half, half_one_add, Ideal.div, if_neg h0, one_mul, ← EReal.coe_inv, real_sigmoid]

/-- The last activation: `8 tanh (z / 2) + 8` is `16 / (1 + exp (-z))`, for every extended real. -/
theorem last_activation (z : EReal) :
    ((8 : ℝ) : EReal) * Ideal.tanh (half * z) + ((8 : ℝ) : EReal) = ((16 : ℝ) : EReal) * Ideal.div 1 (1 + Ideal.exp (-z)) := by
  rw [sigmoid]
  obtain ⟨r, hr⟩ := exists_tanh (half * z)
  rw [hr, half_one_add, ← EReal.coe_mul, ← EReal.coe_mul, ← EReal.coe_add]
  exact congrArg _ (by ring)

/-- The hidden activation: with `t = h / 2`, the kernel's `t + t tanh t` is the textbook's `h / (1 + exp (-h))`, provided
    `h` is not minus infinity (there the kernel adds opposite infinities and the textbook gets zero). -/
theorem hidden_activation (h : EReal) (hb : h ≠ ⊥) :
    half * h + half * h * Ideal.tanh (half * h) = h * Ideal.div 1 (1 + Ideal.exp (-h)) := by
  rw [sigmoid]
  induction h with
  | bot => exact absurd rfl hb
  | top =>
    rw [half_top, tanh_top, half_one_add, EReal.coe_one, mul_one, EReal.top_add_top]
    rw [show (1 / 2 * (1 + 1) : ℝ) = 1 from by norm_num, EReal.coe_one, mul_one]
  | coe r =>
    rw [tanh_half, half_one_add, ← EReal.coe_mul, ← EReal.coe_mul, ← EReal.coe_mul, ← EReal.coe_add]
    exact congrArg _ (by ring)

/-- The precondition of `hidden_activation` cannot be dropped: at minus infinity its two sides differ. -/
theorem hidden_activation_bot :
    half * (⊥ : EReal) + half * ⊥ * Ideal.tanh (half * ⊥) ≠ ⊥ * Ideal.div 1 (1 + Ideal.exp (-⊥)) := by
  rw [sigmoid, half_bot, tanh_bot, half_one_add, EReal.bot_add,
    show (1 / 2 * (1 + -1) : ℝ) = 0 from by norm_num, EReal.coe_zero, mul_zero]
  exact EReal.bot_ne_zero

end Cert.Scalars

end
-- ==== Proof.Formula.lean ====
/-
  One entry of the result, as the kernel computes it and as the reference does, and that the two are equal.

  An entry of the result depends on the two coordinates `p` and `q` of one position, on the first layer's two rows of
  weights `w0`, `w1` and biases `b`, and on one column `v` of the second layer's weights. Both programs first set a
  coordinate to zero when its magnitude is below the threshold, and form the pre-activations of the hidden layer.
-/
module

public import proofs.«01_k».proof.Proof.Scalars

@[expose] public section

noncomputable section

namespace Cert.Formula

open Idealize.ShloMosaic Cert.Scalars

/-- A coordinate with the small ones set to zero. -/
def clip (x : EReal) : EReal := if max x (-x) < threshold then 0 else x

/-- The pre-activation of one hidden unit, from the two coordinates and the unit's two weights and bias. -/
def hidden (p q w0 w1 b : EReal) : EReal := clip p * w0 + clip q * w1 + b

/-- One entry of the reference's result: `16 * sigmoid (sum of silu (h j) * v j)`, with `h j` the pre-activations. -/
def expected (p q : EReal) (w0 w1 b v : Fin 1024 → EReal) : EReal :=
  ((16 : ℝ) : EReal) * Ideal.div 1 (1 + Ideal.exp (-(∑ j, hidden p q (w0 j) (w1 j) (b j)
    * Ideal.div 1 (1 + Ideal.exp (-(hidden p q (w0 j) (w1 j) (b j)))) * v j)))

/-- One entry of the kernel's result, from weights and biases already halved: with `t j` the pre-activations it forms
    from those, `8 * tanh (sum of (t j + t j * tanh (t j)) * v j) + 8`. -/
def computed (p q : EReal) (w0 w1 b v : Fin 1024 → EReal) : EReal :=
  ((8 : ℝ) : EReal) * Ideal.tanh (∑ j, (hidden p q (w0 j) (w1 j) (b j)
    + hidden p q (w0 j) (w1 j) (b j) * Ideal.tanh (hidden p q (w0 j) (w1 j) (b j))) * v j) + ((8 : ℝ) : EReal)

/-- Halving a unit's weights and bias halves its pre-activation. -/
theorem hidden_half (p q w0 w1 b : EReal) :
    hidden p q (half * w0) (half * w1) (half * b) = half * hidden p q w0 w1 b := by
  unfold hidden
  rw [half_add, half_add, mul_left_comm half, mul_left_comm half]

/-- A pre-activation of finite arguments is finite, so it is not minus infinity. -/
theorem hidden_finite (p q w0 w1 b : ℝ) : hidden p q w0 w1 b ≠ ⊥ := by
  have e : ∀ x : ℝ, ∃ y : ℝ, clip (x : EReal) = (y : EReal) := by
    intro x
    unfold clip
    split
    · exact ⟨0, rfl⟩
    · exact ⟨x, rfl⟩
  obtain ⟨p', hp⟩ := e p
  obtain ⟨q', hq⟩ := e q
  unfold hidden
  rw [hp, hq, ← EReal.coe_mul, ← EReal.coe_mul, ← EReal.coe_add, ← EReal.coe_add]
  exact EReal.coe_ne_bot _

/-- **The two entries are equal**: the kernel's over halved weights and biases is the reference's over the weights and
    biases themselves, if no pre-activation is minus infinity. -/
theorem computed_half (p q : EReal) (w0 w1 b v : Fin 1024 → EReal)
    (hb : ∀ j, hidden p q (w0 j) (w1 j) (b j) ≠ ⊥) :
    computed p q (fun j => half * w0 j) (fun j => half * w1 j) (fun j => half * b j) (fun j => half * v j)
      = expected p q w0 w1 b v := by
  have e : ∀ j, hidden p q (half * w0 j) (half * w1 j) (half * b j)
        + hidden p q (half * w0 j) (half * w1 j) (half * b j)
          * Ideal.tanh (hidden p q (half * w0 j) (half * w1 j) (half * b j))
      = hidden p q (w0 j) (w1 j) (b j) * Ideal.div 1 (1 + Ideal.exp (-(hidden p q (w0 j) (w1 j) (b j)))) := by
    intro j
    rw [hidden_half]
    exact hidden_activation _ (hb j)
  unfold computed expected
  simp only [e]
  rw [sum_half_right]
  exact last_activation _

/-- The hypothesis cannot be dropped: with all biases at minus infinity and every other number zero but the second
    layer's first weight, which is one, the kernel's entry is 0 and the reference's is 8. -/
theorem differ_at_minus_infinity :
    computed 0 0 (fun _ => half * 0) (fun _ => half * 0) (fun _ => half * ⊥) (fun j => half * if j = 0 then 1 else 0) = 0
      ∧ expected 0 0 (fun _ => 0) (fun _ => 0) (fun _ => ⊥) (fun j => if j = 0 then 1 else 0) = ((8 : ℝ) : EReal) := by
  have h0 : hidden 0 0 0 0 ⊥ = ⊥ := by simp [hidden]
  have h1 : hidden 0 0 (half * 0) (half * 0) ⊥ = ⊥ := by simp [hidden]
  constructor
  · unfold computed
    simp only [half_bot]
    rw [sum_half_right, Finset.sum_eq_single 0 (by intro j _ hj; simp [hj]) (by simp), h1, if_pos rfl, mul_one,
      EReal.bot_add, half_bot, tanh_bot, ← EReal.coe_mul, ← EReal.coe_add, ← EReal.coe_zero]
    exact congrArg _ (by norm_num)
  · unfold expected
    have e : ∀ j : Fin 1024, ⊥ * Ideal.div 1 (1 + Ideal.exp (-⊥)) * (if j = 0 then (1 : EReal) else 0) = 0 := by
      intro j
      rw [sigmoid, half_bot, tanh_bot, half_one_add, show (1 / 2 * (1 + -1) : ℝ) = 0 from by norm_num,
        EReal.coe_zero, mul_zero, zero_mul]
    have t : Ideal.tanh 0 = ((Real.tanh 0 : ℝ) : EReal) := rfl
    simp only [h0, e, Finset.sum_const_zero]
    rw [sigmoid, mul_zero, t, half_one_add, Real.tanh_zero, ← EReal.coe_mul]
    exact congrArg _ (by norm_num)

end Cert.Formula

end
-- ==== Proof.Block.lean ====
/-
  What one run of the kernel's body computes, read at an index.

  The body has four values it stores: the first layer's weights halved, its biases halved, the second layer's weights
  halved (all three at the first grid point only, into buffers kept from point to point), and the block of results.
-/
module

public import proofs.«01_k».proof.Proof.Formula
public import proofs.«01_k».proof.Proof.Gen.KernelIdeal.Skeleton
public import Idealize.ShloMosaic.Lib.Pointwise

@[expose] public section

set_option maxRecDepth 16384

noncomputable section

namespace Cert.KernelIdeal.Block

open Cert.KernelIdeal Cert.KernelIdeal.Gen Idealize.ShloMosaic Cert.Scalars Cert.Formula

/-- The kernel's named constant stands for the threshold. -/
theorem named_threshold : (Named.named κ "threshold" 0x3586#16 : Ideal .bf16) = threshold :=
  IdealRules.named_const.ideal_named_scalar _ _ _ _ rfl

/-- The first value stored: the first layer's weights halved. -/
theorem pay1_apply (w : Vec Ideal S2x1024 .f32) (k : Fin 2) (j : Fin 1024) :
    k0_pay1 (F := Ideal) w (ix2 k j) = half * w (ix2 k j) := by
  pointwise [k0_pay1, word_half]

/-- The second value stored: the first layer's biases halved. -/
theorem pay2_apply (b : Vec Ideal S1x1024 .f32) (j : Fin 1024) :
    k0_pay2 (F := Ideal) b (ix2 0 j) = half * b (ix2 0 j) := by
  pointwise [k0_pay2, word_half]

/-- The third value stored: the second layer's weights halved. -/
theorem pay3_apply (v : Vec Ideal S1024x1024 .f32) (j c : Fin 1024) :
    k0_pay3 (F := Ideal) v (ix2 j c) = half * v (ix2 j c) := by
  pointwise [k0_pay3, word_half]

/-- The block of results: at row `r` and column `c`, the kernel's entry formula over the position in row `r`, the
    weights and biases it is given, and column `c` of the second layer. -/
theorem pay4_apply (x : Vec Ideal S512x2 .bf16) (w : Vec Ideal S2x1024 .bf16) (b : Vec Ideal S1x1024 .f32)
    (v : Vec Ideal S1024x1024 .bf16) (r : Fin 512) (c : Fin 1024) :
    k0_pay4 (F := Ideal) x w b v (ix2 r c)
      = computed (x (ix2 r 0)) (x (ix2 r 1)) (fun j => w (ix2 0 j)) (fun j => w (ix2 1 j)) (fun j => b (ix2 0 j))
          (fun j => v (ix2 j c)) := by
  pointwise [k0_pay4, word_eight, named_threshold]
  simp only [Fin.sum_univ_two]
  rfl

/-- The block of results over the halved weights and biases is the reference's entry over the weights and biases. -/
theorem block_apply (x : Vec Ideal S512x2 .bf16) (w : Vec Ideal S2x1024 .f32) (b : Vec Ideal S1x1024 .f32)
    (v : Vec Ideal S1024x1024 .f32) (r : Fin 512) (c : Fin 1024)
    (hb : ∀ j : Fin 1024, hidden (x (ix2 r 0)) (x (ix2 r 1)) (w (ix2 0 j)) (w (ix2 1 j)) (b (ix2 0 j)) ≠ ⊥) :
    k0_pay4 (F := Ideal) x (k0_pay1 (F := Ideal) w) (k0_pay2 (F := Ideal) b) (k0_pay3 (F := Ideal) v) (ix2 r c)
      = expected (x (ix2 r 0)) (x (ix2 r 1)) (fun j => w (ix2 0 j)) (fun j => w (ix2 1 j)) (fun j => b (ix2 0 j))
          (fun j => v (ix2 j c)) := by
  rw [pay4_apply]
  simp only [pay1_apply, pay2_apply, pay3_apply]
  exact computed_half _ _ _ _ _ _ hb

end Cert.KernelIdeal.Block

end
-- ==== Proof.Result.lean ====
/-
  The array the kernel's run leaves, entry by entry.

  The kernel runs over 32 grid points. Point `t` reads rows `512 t` to `512 t + 511` of the list of positions, and the
  weights and biases whole; it writes the same rows of the result. At the first point it also stores the halved weights
  and biases in buffers that all later points read. Before the grid, the host lays the two coordinate arrays out as one
  list of positions; after it, the host reshapes the rows of the result back to the shape of the coordinate arrays.
-/
module

public import proofs.«01_k».proof.Proof.Block
public import proofs.«01_k».proof.Proof.Gen.KernelIdeal.Frame
public import Idealize.ShloMosaic.Lib.Pipeline.ValueKit
public import Idealize.ShloMosaic.Lib.Claim

@[expose] public section

set_option maxRecDepth 16384

noncomputable section

namespace Cert.KernelIdeal.Result

open Cert.KernelIdeal Cert.KernelIdeal.Gen Idealize.ShloMosaic Idealize.ShloMosaic.TcCoe Idealize.SL.Sem Cert.Formula

variable (m : (ℓ : Loc nD τ sig) → Buf (Elt Ideal) ℓ) (ρ : Dev nD → PrngReg)

/-! ## The blocks a grid point reads -/

/-- Point `t` reads block `t` of the positions. -/
theorem index0 : ∀ t : Fin cfg0.N, win0_0.index t = ![t.val, 0] := (by decide +kernel : ∀ t : Fin grid0.N, _)

/-- Every point reads the same block of the first layer's weights. -/
theorem index1 : ∀ t : Fin cfg0.N, win0_1.index t = ![0, 0] := (by decide +kernel : ∀ t : Fin grid0.N, _)

/-- Every point reads the same block of the first layer's biases. -/
theorem index2 : ∀ t : Fin cfg0.N, win0_2.index t = ![0, 0] := (by decide +kernel : ∀ t : Fin grid0.N, _)

/-- Every point reads the same block of the second layer's weights. -/
theorem index3 : ∀ t : Fin cfg0.N, win0_3.index t = ![0, 0] := (by decide +kernel : ∀ t : Fin grid0.N, _)

/-- Point `t` writes block `t` of the result. -/
theorem index4 : ∀ t : Fin cfg0.N, win0_4.index t = ![t.val, 0] := (by decide +kernel : ∀ t : Fin grid0.N, _)

/-- Row `r` of the positions read at point `t` is row `512 t + r` of the list. -/
theorem positions_block (c : Dev nD) (t : Fin cfg0.N) (r : Fin 512) (k : Fin 2) (R : Fin 16384)
    (h : R.val = t.val * 512 + r.val) :
    (iblk m c 0 t : Vec Ideal S512x2 .bf16) (ix2 r k) = (V m c main_v5 : Vec Ideal S16384x2 .bf16) (ix2 R k) := by
  blk_simp [iblk]
  refine congrArg (V m c main_v5) ?_
  blk_ext [index0]

/-- The block of the first layer's weights is all of them. -/
theorem weights_block (c : Dev nD) (t : Fin cfg0.N) : (iblk m c 1 t : Vec Ideal S2x1024 .f32) = V m c main_arg2 := by
  funext y
  blk_simp [iblk]
  refine congrArg (V m c main_arg2) ?_
  blk_ext [index1]

/-- The block of the first layer's biases is all of them. -/
theorem biases_block (c : Dev nD) (t : Fin cfg0.N) : (iblk m c 2 t : Vec Ideal S1x1024 .f32) = V m c main_v6 := by
  funext y
  blk_simp [iblk]
  refine congrArg (V m c main_v6) ?_
  blk_ext [index2]

/-- The block of the second layer's weights is all of them. -/
theorem second_block (c : Dev nD) (t : Fin cfg0.N) : (iblk m c 3 t : Vec Ideal S1024x1024 .f32) = V m c main_arg4 := by
  funext y
  blk_simp [iblk]
  refine congrArg (V m c main_arg4) ?_
  blk_ext [index3]

/-! ## What a grid point leaves -/

/-- After every point the kept buffers hold the halved weights and biases: the first point stores them and no later
    point writes there. -/
theorem kept (c : Dev nD) : ∀ (n : ℕ) (h : n < cfg0.N), (outsAt0 m c n h).2
    = (k0_pay1 (F := Ideal) (V m c main_arg2), k0_pay2 (F := Ideal) (V m c main_v6), k0_pay3 (F := Ideal) (V m c main_arg4))
  | 0, h => by
    rw [show outsAt0 m c 0 h = _ from outsAt0_A m c ⟨0, h⟩ rfl]
    frame_out
    simp only [weights_block, biases_block, second_block]
  | n + 1, h => by
    have hN : cfg0.N = 32 := N_0
    have hB : ¬(⟨n + 1, h⟩ : Fin cfg0.N).val % 32 = 0 := by dsimp only; omega
    rw [show outsAt0 m c (n + 1) h = _ from outsAt0_B m c ⟨n + 1, h⟩ hB]
    exact kept c n (Nat.lt_of_succ_lt h)

/-- Every point leaves the block of results computed from its positions and the halved weights and biases. -/
theorem left_out (c : Dev nD) (t : Fin cfg0.N) : (outsAt0 m c t.val t.isLt).1
    = k0_pay4 (F := Ideal) (iblk m c 0 t) (k0_pay1 (F := Ideal) (V m c main_arg2))
        (k0_pay2 (F := Ideal) (V m c main_v6)) (k0_pay3 (F := Ideal) (V m c main_arg4)) := by
  by_cases h : t.val % 32 = 0
  · rw [outsAt0_A m c t h]
    frame_out
    simp only [weights_block, biases_block, second_block]
  · rw [outsAt0_B m c t h]
    frame_out
    simp only [kept]
    exact congr (congr (congrArg _ ((Memref.isWhole_whole cc0_scratch0).read_unread _))
      ((Memref.isWhole_whole cc0_scratch1).read_unread _)) ((Memref.isWhole_whole cc0_scratch2).read_unread _)

/-! ## What the host prepares and returns -/

/-- Row `R` of the list of positions holds the two coordinates at `(R / 4096, R % 4096)`. -/
theorem entry_positions (c : Dev nD) (R : Fin 16384) :
    ((V m c main_v5 : Vec Ideal S16384x2 .bf16) (ix2 R 0) : EReal)
        = (m ((c : Thread nD τ).loc main_arg0) : Vec Ideal S4x4096 .f32) (ix2 ⟨R.val / 4096, by omega⟩ ⟨R.val % 4096, by omega⟩)
      ∧ ((V m c main_v5 : Vec Ideal S16384x2 .bf16) (ix2 R 1) : EReal)
        = (m ((c : Thread nD τ).loc main_arg1) : Vec Ideal S4x4096 .f32) (ix2 ⟨R.val / 4096, by omega⟩ ⟨R.val % 4096, by omega⟩) := by
  unfold V
  simp only [V0, List.flatten_cons, List.flatten_nil, List.append_nil]
  after_results_simp
  pointwise
  after_results_simp
  pointwise

/-- The biases reach the grid as one row. -/
theorem entry_biases (c : Dev nD) (j : Fin 1024) :
    ((V m c main_v6 : Vec Ideal S1x1024 .f32) (ix2 0 j) : EReal)
      = (m ((c : Thread nD τ).loc main_arg3) : Vec Ideal S1024 .f32) (ix1 j) := by
  unfold V
  simp only [V0, List.flatten_cons, List.flatten_nil, List.append_nil]
  after_results_simp
  pointwise

/-- The program's result is the grid's array, reshaped. -/
theorem tail (c : Dev nD) : Pipeline.afterTail₀ cfgs (dats m) 0 (V0 m) [hostOps1] c main_v8
    = shapeCast S4x4096x1024 ((dats m 0 c).arrAt 4 cfg0.N) shapeCasts_S16384x1024_S4x4096x1024 := by
  unfold Pipeline.afterTail₀
  simp only [List.flatten_cons, List.flatten_nil, List.append_nil]
  after_results_simp
  exact congrArg (fun a : Vec Ideal S16384x1024 .f32 => shapeCast S4x4096x1024 a shapeCasts_S16384x1024_S4x4096x1024)
    (Pipeline.withArrays_arr spec0 (by decide) c (V0 m c) (fun w => (dats m 0 c).arrAt w cfg0.N) 4)

/-- The reshape puts row `4096 s + r` at `(s, r)`. -/
theorem reshape_rows (a : Vec Ideal S16384x1024 .f32) (s : Fin 4) (r : Fin 4096) (j : Fin 1024) :
    shapeCast S4x4096x1024 a shapeCasts_S16384x1024_S4x4096x1024 (ix3 s r j)
      = a (ix2 ⟨s.val * 4096 + r.val, by have := s.isLt; have := r.isLt; omega⟩ j) := by
  pointwise

/-! ## The result -/

/-- The result expected from two coordinate arrays, the first layer's weights and biases and the second layer's weights. -/
def values (p q : Vec Ideal S4x4096 .f32) (w : Vec Ideal S2x1024 .f32) (b : Vec Ideal S1024 .f32)
    (v : Vec Ideal S1024x1024 .f32) : Vec Ideal S4x4096x1024 .f32 := fun i =>
  expected (p (ix2 (i 0) (i 1))) (q (ix2 (i 0) (i 1))) (fun j => w (ix2 0 j)) (fun j => w (ix2 1 j)) (fun j => b (ix1 j))
    (fun j => v (ix2 j (i 2)))

/-- What the proof needs of the arguments: no pre-activation is minus infinity. -/
def Safe (p q : Vec Ideal S4x4096 .f32) (w : Vec Ideal S2x1024 .f32) (b : Vec Ideal S1024 .f32) : Prop :=
  ∀ (s : Fin 4) (r : Fin 4096) (j : Fin 1024),
    hidden (p (ix2 s r)) (q (ix2 s r)) (w (ix2 0 j)) (w (ix2 1 j)) (b (ix1 j)) ≠ ⊥

/-- The rows of the result, from the arguments as launched. -/
def rows (c : Dev nD) : Vec Ideal S16384x1024 .f32 := fun i =>
  values (m ((c : Thread nD τ).loc main_arg0)) (m ((c : Thread nD τ).loc main_arg1)) (m ((c : Thread nD τ).loc main_arg2))
    (m ((c : Thread nD τ).loc main_arg3)) (m ((c : Thread nD τ).loc main_arg4))
    (ix3 ⟨(i 0).val / 4096, by have : (i 0).val < 16384 := (i 0).isLt; omega⟩ ⟨(i 0).val % 4096, by omega⟩ (i 1))

/-- An entry of the block left at point `t` is the expected one. -/
theorem left_entry (c : Dev nD)
    (hs : Safe (m ((c : Thread nD τ).loc main_arg0)) (m ((c : Thread nD τ).loc main_arg1))
      (m ((c : Thread nD τ).loc main_arg2)) (m ((c : Thread nD τ).loc main_arg3)))
    (t : Fin cfg0.N) (r : Fin 512) (j : Fin 1024) (R : Fin 16384) (h : R.val = t.val * 512 + r.val) :
    k0_pay4 (F := Ideal) (iblk m c 0 t) (k0_pay1 (F := Ideal) (V m c main_arg2))
      (k0_pay2 (F := Ideal) (V m c main_v6)) (k0_pay3 (F := Ideal) (V m c main_arg4)) (ix2 r j) = rows m c (ix2 R j) := by
  obtain ⟨ep, eq⟩ := entry_positions m c R
  rw [← positions_block m c t r _ R h] at ep eq
  rw [Block.block_apply]
  · have eb : (fun k : Fin 1024 => ((V m c main_v6 : Vec Ideal S1x1024 .f32) (ix2 0 k) : EReal))
        = fun k => (m ((c : Thread nD τ).loc main_arg3) : Vec Ideal S1024 .f32) (ix1 k) := funext (entry_biases m c)
    rw [ep, eq, eb, V_main_arg2, V_main_arg4]
    rfl
  · intro k
    rw [ep, eq, entry_biases, V_main_arg2]
    exact hs _ _ _

/-- The grid's array ends holding the expected rows: every point leaves its block of them, and the blocks cover it. -/
theorem final (c : Dev nD)
    (hs : Safe (m ((c : Thread nD τ).loc main_arg0)) (m ((c : Thread nD τ).loc main_arg1))
      (m ((c : Thread nD τ).loc main_arg2)) (m ((c : Thread nD τ).loc main_arg3))) :
    (dats m 0 c).arrAt 4 cfg0.N = rows m c := by
  refine (dats m 0 c).arrAt_eq_of_covers 4 _ (by decide +kernel) fun t hf y => ?_
  blk_simp
  rw [after0_4, left_out]
  have ht : t.val < 32 := t.isLt
  have hr : (y 0).val < 512 := (y 0).isLt
  have e := left_entry m c hs t (y 0) (y 1) ⟨t.val * 512 + (y 0).val, by omega⟩ rfl
  refine (congrArg _ (ix2_eta y).symm).trans (e.trans (congrArg (rows m c) ?_))
  blk_ext [index4]

/-- **The kernel's run**: from arguments with no pre-activation at minus infinity it ends with the expected result, and
    leaves its arguments as they were. -/
theorem run
    (hs : ∀ c : Dev nD, Safe (m ((c : Thread nD τ).loc main_arg0)) (m ((c : Thread nD τ).loc main_arg1))
      (m ((c : Thread nD τ).loc main_arg2)) (m ((c : Thread nD τ).loc main_arg3))) :
    θ_run (defs (F := Ideal)) (onTc (τ := τ) (main (F := Ideal))) ⟨m, fun _ => 0, ρ⟩ fun r => ∀ c : Dev nD,
      r.2.mem ((c : Thread nD τ).loc main_v8)
        = values (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  run_from run_main m ρ & unchanged m ρ
  rw [tail, final m c (hs c)]
  funext i
  obtain ⟨s, r, j, rfl⟩ : ∃ (s : Fin 4) (r : Fin 4096) (j : Fin 1024), i = ix3 s r j := ⟨i 0, i 1, i 2, (ix3_eta i).symm⟩
  refine (reshape_rows _ s r j).trans ?_
  have hr : r.val < 4096 := r.isLt
  refine congrArg (values _ _ _ _ _) (congr (congr (congrArg ix3 (Fin.ext ?_)) (Fin.ext ?_)) rfl)
  · show (s.val * 4096 + r.val) / 4096 = s.val
    omega
  · show (s.val * 4096 + r.val) % 4096 = r.val
    omega

end Cert.KernelIdeal.Result

end
-- ==== Proof.Reference.lean ====
/-
  The reference's result and the precondition, entry by entry.

  The reference is read down to one entry of its result, which is the formula the kernel's result was shown to follow.
  The precondition, an array of truth values with one for each pre-activation, is read the same way.
-/
module

public import proofs.«01_k».proof.Proof.Result
public import proofs.«01_k».proof.Proof.Gen.ReferenceIdeal.Run
public import proofs.«01_k».proof.Proof.Gen.Pre_no_preactivation_is_minus_inf

@[expose] public section

set_option maxRecDepth 16384

noncomputable section

namespace Cert.ReferenceIdeal.Entry

open Cert.ReferenceIdeal Cert.ReferenceIdeal.Gen Idealize.ShloMosaic Idealize.ShloMosaic.TcCoe Idealize.SL.Sem Cert.Formula Cert.Scalars

variable (m : (ℓ : Loc nD τ sig) → Buf (Elt Ideal) ℓ) (ρ : Dev nD → PrngReg)

/-- The precondition says that no pre-activation is minus infinity. -/
theorem safe_of_pre (p q : Vec Ideal S4x4096 .f32) (w : Vec Ideal S2x1024 .f32) (b : Vec Ideal S1024 .f32)
    (v : Vec Ideal S1024x1024 .f32) (h : Cert.Pre_no_preactivation_is_minus_inf.fn (F := Ideal) p q w b v = fun _ => 1#1) :
    Cert.KernelIdeal.Result.Safe p q w b := by
  intro s r j hb
  have e := congrFun h (ix3 s r j)
  pointwise [Cert.Pre_no_preactivation_is_minus_inf.fn, Cert.Pre_no_preactivation_is_minus_inf.fn_where, word_threshold,
    word_minus_infinity, id_eq, Finset.univ_unique, Finset.sum_singleton] at e
  change BitVec.ofBool (decide (⊥ < hidden (p (ix2 s r)) (q (ix2 s r)) (w (ix2 0 j)) (w (ix2 1 j)) (b (ix1 j)))) = 1#1 at e
  rw [hb] at e
  simp at e

/-- **The reference's run** ends with the expected result and leaves its arguments as they were. -/
theorem run :
    θ_run (defs (F := Ideal)) (onTc (τ := τ) (main (F := Ideal))) ⟨m, fun _ => 0, ρ⟩ fun r => ∀ c : Dev nD,
      r.2.mem ((c : Thread nD τ).loc main_v24)
        = Cert.KernelIdeal.Result.values (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  run_from Value.run m ρ
  funext i
  obtain ⟨s, r, j, rfl⟩ : ∃ (s : Fin 4) (r : Fin 4096) (j : Fin 1024), i = ix3 s r j := ⟨i 0, i 1, i 2, (ix3_eta i).symm⟩
  pointwise [word_sixteen, word_threshold, id_eq, Finset.univ_unique, Finset.sum_singleton]
  rfl

end Cert.ReferenceIdeal.Entry

end
-- ==== Proof.lean ====
/-
  The certificate's proof. The kernel and its idealization run to the end, change no argument and leave no transfer
  open; the idealization replaces one printed number by the number it stands for; and the idealized kernel's result is
  the reference's, entry by entry, if no pre-activation of the hidden layer is minus infinity.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_no_preactivation_is_minus_inf
public import proofs.«01_k».proof.Proof.Reference
public import Idealize.ShloMosaic.Lib.Quiescent
public import Idealize.ShloMosaic.Lib.Claim

@[expose] public section

noncomputable section

namespace Cert.Proof

open Idealize.ShloMosaic Idealize.ShloMosaic.TcCoe Idealize.SL.Sem

/-- The reference runs to the end and changes no argument; it has no semaphore that could be left raised. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The one change the idealization makes: the kernel's printed threshold stands for the number it rounds. -/
theorem preserves : Cert.preserves_Kernel_KernelIdeal :=
  IdealRules.named_const.statement Cert.KernelIdeal.κ "threshold" .bf16 0x3586#16 ((8796093 / 8796093022208 : ℝ) : EReal) rfl

/-- The idealized kernel and the reference end with the same result. -/
theorem algebraic : Cert.algebraic_KernelIdeal_ReferenceIdeal_pre_no_preactivation_is_minus_inf := by
  pair_intro
  · run_from Cert.KernelIdeal.Result.run m g fun c => Cert.ReferenceIdeal.Entry.safe_of_pre _ _ _ _ _ (hpre c)
  · run_from Cert.ReferenceIdeal.Entry.run m' g'

/-- Everything claimed. -/
theorem claim : Cert.Claim :=
  ⟨Cert.Kernel.Gen.facts, Cert.KernelIdeal.Gen.facts, Cert.ReferenceIdeal.Gen.facts,
    Cert.Pre_no_preactivation_is_minus_inf.Gen.facts,
    fun m g _ => Cert.Kernel.Gen.frame m g, fun m g _ => Cert.KernelIdeal.Gen.frame m g,
    fun m g _ => Cert.KernelIdeal.Gen.frame m g, fun m g _ => reference_frame m g, fun m g _ => reference_frame m g,
    preserves, algebraic⟩

end Cert.Proof

end
